-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_initial [hPre_initial : Cert.Pre_initial.Facts] (m : (ℓ : Loc Cert.KernelIdeal.nD Cert.KernelIdeal.τ Cert.KernelIdeal.sig) → Buf (Elt Ideal) ℓ) : Prop :=
  ∀ c : Dev Cert.KernelIdeal.nD,
    (Cert.Pre_initial.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_initial [hPre_initial : Cert.Pre_initial.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_initial.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_initial [hKernelIdeal : Cert.KernelIdeal.Facts] [hPre_initial : Cert.Pre_initial.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_initial m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_initial [hReferenceIdeal : Cert.ReferenceIdeal.Facts] [hPre_initial : Cert.Pre_initial.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_initial m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "base_h" .f32 0x3B0FEC15#32 ((14 / 6375 : ℝ) : EReal)
  ∧ IdealRules.named_const.Statement Cert.KernelIdeal.κ "base_n" .f32 0xBB7E6F13#32 ((-33 / 8500 : ℝ) : EReal)
  ∧ IdealRules.named_const.Statement Cert.KernelIdeal.κ "step_e" .f32 0x3CA47B86#32 ((128 / 6375 : ℝ) : EReal)
  ∧ IdealRules.named_const.Statement Cert.KernelIdeal.κ "step" .f32 0x38A47B86#32 ((1 / 12750 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "log_step_e" .f32 0xC07A1E76#32 ((Real.log (128 / 6375) : ℝ) : EReal)
  ∧ IdealRules.named_const.Statement Cert.KernelIdeal.κ "log_step" .f32 0xC11740A9#32 ((Real.log (1 / 12750) : ℝ) : EReal)
  ∧ IdealRules.named_const.Statement Cert.KernelIdeal.κ "ln2" .f32 0x3F317218#32 ((Real.log 2 : ℝ) : EReal)

def algebraic_KernelIdeal_ReferenceIdeal_pre_initial [hKernelIdeal : Cert.KernelIdeal.Facts] [hReferenceIdeal : Cert.ReferenceIdeal.Facts] [hPre_initial : Cert.Pre_initial.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_initial m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_initial : Cert.Pre_initial.Facts),
    quiescent_Kernel (hKernel := hKernel)
    ∧ quiescent_KernelIdeal (hKernelIdeal := hKernelIdeal)
    ∧ quiescent_KernelIdeal_pre_initial (hKernelIdeal := hKernelIdeal) (hPre_initial := hPre_initial)
    ∧ quiescent_ReferenceIdeal (hReferenceIdeal := hReferenceIdeal)
    ∧ quiescent_ReferenceIdeal_pre_initial (hReferenceIdeal := hReferenceIdeal) (hPre_initial := hPre_initial)
    ∧ preserves_Kernel_KernelIdeal
    ∧ algebraic_KernelIdeal_ReferenceIdeal_pre_initial (hKernelIdeal := hKernelIdeal) (hReferenceIdeal := hReferenceIdeal) (hPre_initial := hPre_initial)
-- ==== Pre_initial.lean ====
abbrev S512x3x64x64 : Shape := ⟨4, ![512, 3, 64, 64]⟩
abbrev S12288 : Shape := ⟨1, ![12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel
  bcast_S_S512x3x64x64 : S_.BroadcastsInDim S512x3x64x64 (![] : Fin 0 → Fin S512x3x64x64.rank)
  reducesTo_S512x3x64x64_S_d0_1_2_3 : S512x3x64x64.ReducesTo [0, 1, 2, 3] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S512x3x64x64 .f32) (main_arg1 : FVec F S512x3x64x64 .f32) (main_arg2 : FVec F S12288 .f32) (main_arg3 : FVec F S12288 .f32) : IVec S_ 1 :=
  let main_cst : FVec F S_ .f32 := constant S_ .f32 0x00000000#32
  let main_v0 : FVec F S12288 .f32 := broadcastInDim S12288 ![] bcast_S_S12288 main_cst
  let main_v1 : IVec S12288 1 := cmpf .oeq main_arg2 main_v0
  let main_c : IVec S_ 1 := constantI S_ 1 1#1
  let main_v2 : IVec S_ 1 := (fun x v => Host.reduce IntOp.andi x v reducesTo_S12288_S_d0 h_S_) main_v1 main_c
  let main_cst_0 : FVec F S_ .f32 := constant S_ .f32 0x00000000#32
  let main_v3 : FVec F S12288 .f32 := broadcastInDim S12288 ![] bcast_S_S12288 main_cst_0
  let main_v4 : IVec S12288 1 := cmpf .oeq main_arg3 main_v3
  let main_c_1 : IVec S_ 1 := constantI S_ 1 1#1
  let main_v5 : IVec S_ 1 := (fun x v => Host.reduce IntOp.andi x v reducesTo_S12288_S_d0 h_S_) main_v4 main_c_1
  let main_v6 : IVec S_ 1 := andi main_v2 main_v5
  let main_v7 : FVec F S512x3x64x64 .f32 := Host.absf main_arg0
  let main_cst_2 : FVec F S_ .f32 := constant S_ .f32 0x7F800000#32
  let main_v8 : FVec F S512x3x64x64 .f32 := broadcastInDim S512x3x64x64 ![] bcast_S_S512x3x64x64 main_cst_2
  let main_v9 : IVec S512x3x64x64 1 := cmpf .olt main_v7 main_v8
  let main_c_3 : IVec S_ 1 := constantI S_ 1 1#1
  let main_v10 : IVec S_ 1 := (fun x v => Host.reduce IntOp.andi x v reducesTo_S512x3x64x64_S_d0_1_2_3 h_S_) main_v9 main_c_3
  let main_v11 : IVec S_ 1 := andi main_v6 main_v10
  let main_v12 : FVec F S512x3x64x64 .f32 := Host.absf main_arg1
  let main_cst_4 : FVec F S_ .f32 := constant S_ .f32 0x7F800000#32
  let main_v13 : FVec F S512x3x64x64 .f32 := broadcastInDim S512x3x64x64 ![] bcast_S_S512x3x64x64 main_cst_4
  let main_v14 : IVec S512x3x64x64 1 := cmpf .olt main_v12 main_v13
  let main_c_5 : IVec S_ 1 := constantI S_ 1 1#1
  let main_v15 : IVec S_ 1 := (fun x v => Host.reduce IntOp.andi x v reducesTo_S512x3x64x64_S_d0_1_2_3 h_S_) main_v14 main_c_5
  fn_part1 (F := F) main_v11 main_v15
-- ==== Kernel.lean ====
abbrev S512x3x64x64 : Shape := ⟨4, ![512, 3, 64, 64]⟩
abbrev S12288 : Shape := ⟨1, ![12288]⟩
abbrev S512x12288 : Shape := ⟨2, ![512, 12288]⟩
abbrev S8x12288 : Shape := ⟨2, ![8, 12288]⟩
abbrev S8x1024 : Shape := ⟨2, ![8, 1024]⟩

abbrev nBuf : Space → Nat
  | .hbm => 7
  | .vmem => 6
  | .smem => 0
  | _ => 0

abbrev bufTy : (tb : Table) → Fin (tcTables nBuf tb) → BufTy
  | .hbm, ⟨0, _⟩ => ⟨S512x3x64x64, .f32⟩
  | .hbm, ⟨1, _⟩ => ⟨S512x3x64x64, .f32⟩
  | .hbm, ⟨2, _⟩ => ⟨S12288, .f32⟩
  | .hbm, ⟨3, _⟩ => ⟨S12288, .f32⟩
  | .hbm, ⟨4, _⟩ => ⟨S512x12288, .f32⟩
  | .hbm, ⟨5, _⟩ => ⟨S512x12288, .f32⟩
  | .hbm, ⟨6, _⟩ => ⟨S512x12288, .f32⟩
  | .local _ .vmem, ⟨0, _⟩ => ⟨S8x12288, .f32⟩
  | .local _ .vmem, ⟨1, _⟩ => ⟨S8x12288, .f32⟩
  | .local _ .vmem, ⟨2, _⟩ => ⟨S8x12288, .f32⟩
  | .local _ .vmem, ⟨3, _⟩ => ⟨S8x12288, .f32⟩
  | .local _ .vmem, ⟨4, _⟩ => ⟨S8x12288, .f32⟩
  | .local _ .vmem, ⟨5, _⟩ => ⟨S8x12288, .f32⟩
  | _, _ => ⟨S512x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c100_i32 : BitVec 32 := 100#32
  let v17 : BitVec 32 := Scalar.addi c0_i32 c100_i32
  let c1_i32 : BitVec 32 := 1#32
  ⟨c0_i32, v17, c1_i32⟩
@[reducible] def k0_t2_loop : Scf.Loop 32 :=
  let c0_i32_25 : BitVec 32 := 0#32
  let c100_i32_26 : BitVec 32 := 100#32
  let v46 : BitVec 32 := Scalar.addi c0_i32_25 c100_i32_26
  let c1_i32_27 : BitVec 32 := 1#32
  ⟨c0_i32_25, v46, c1_i32_27⟩
@[reducible] def k0_t3_loop : Scf.Loop 32 :=
  let c0_i32_44 : BitVec 32 := 0#32
  let c100_i32_45 : BitVec 32 := 100#32
  let v75 : BitVec 32 := Scalar.addi c0_i32_44 c100_i32_45
  let c1_i32_46 : BitVec 32 := 1#32
  ⟨c0_i32_44, v75, c1_i32_46⟩
@[reducible] def k0_t4_loop : Scf.Loop 32 :=
  let c0_i32_63 : BitVec 32 := 0#32
  let c100_i32_64 : BitVec 32 := 100#32
  let v104 : BitVec 32 := Scalar.addi c0_i32_63 c100_i32_64
  let c1_i32_65 : BitVec 32 := 1#32
  ⟨c0_i32_63, v104, c1_i32_65⟩
@[reducible] def k0_t5_loop : Scf.Loop 32 :=
  let c0_i32_82 : BitVec 32 := 0#32
  let c100_i32_83 : BitVec 32 := 100#32
  let v133 : BitVec 32 := Scalar.addi c0_i32_82 c100_i32_83
  let c1_i32_84 : BitVec 32 := 1#32
  ⟨c0_i32_82, v133, c1_i32_84⟩
@[reducible] def k0_t6_loop : Scf.Loop 32 :=
  let c0_i32_101 : BitVec 32 := 0#32
  let c100_i32_102 : BitVec 32 := 100#32
  let v162 : BitVec 32 := Scalar.addi c0_i32_101 c100_i32_102
  let c1_i32_103 : BitVec 32 := 1#32
  ⟨c0_i32_101, v162, c1_i32_103⟩
@[reducible] def k0_t7_loop : Scf.Loop 32 :=
  let c0_i32_120 : BitVec 32 := 0#32
  let c100_i32_121 : BitVec 32 := 100#32
  let v191 : BitVec 32 := Scalar.addi c0_i32_120 c100_i32_121
  let c1_i32_122 : BitVec 32 := 1#32
  ⟨c0_i32_120, v191, c1_i32_122⟩
@[reducible] def k0_t8_loop : Scf.Loop 32 :=
  let c0_i32_139 : BitVec 32 := 0#32
  let c100_i32_140 : BitVec 32 := 100#32
  let v220 : BitVec 32 := Scalar.addi c0_i32_139 c100_i32_140
  let c1_i32_141 : BitVec 32 := 1#32
  ⟨c0_i32_139, v220, c1_i32_141⟩
@[reducible] def k0_t9_loop : Scf.Loop 32 :=
  let c0_i32_158 : BitVec 32 := 0#32
  let c100_i32_159 : BitVec 32 := 100#32
  let v249 : BitVec 32 := Scalar.addi c0_i32_158 c100_i32_159
  let c1_i32_160 : BitVec 32 := 1#32
  ⟨c0_i32_158, v249, c1_i32_160⟩
@[reducible] def k0_t10_loop : Scf.Loop 32 :=
  let c0_i32_177 : BitVec 32 := 0#32
  let c100_i32_178 : BitVec 32 := 100#32
  let v278 : BitVec 32 := Scalar.addi c0_i32_177 c100_i32_178
  let c1_i32_179 : BitVec 32 := 1#32
  ⟨c0_i32_177, v278, c1_i32_179⟩
@[reducible] def k0_t11_loop : Scf.Loop 32 :=
  let c0_i32_196 : BitVec 32 := 0#32
  let c100_i32_197 : BitVec 32 := 100#32
  let v307 : BitVec 32 := Scalar.addi c0_i32_196 c100_i32_197
  let c1_i32_198 : BitVec 32 := 1#32
  ⟨c0_i32_196, v307, c1_i32_198⟩
@[reducible] def k0_t12_loop : Scf.Loop 32 :=
  let c0_i32_215 : BitVec 32 := 0#32
  let c100_i32_216 : BitVec 32 := 100#32
  let v336 : BitVec 32 := Scalar.addi c0_i32_215 c100_i32_216
  let c1_i32_217 : BitVec 32 := 1#32
  ⟨c0_i32_215, v336, c1_i32_217⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "base_h" => some ((14 / 6375 : ℝ) : EReal)
  | "base_n" => some ((-33 / 8500 : ℝ) : EReal)
  | "ln2" => some ((Real.log 2 : ℝ) : EReal)
  | "log2e" => some (((Real.log 2)⁻¹ : ℝ) : EReal)
  | "log_step" => some ((Real.log (1 / 12750) : ℝ) : EReal)
  | "log_step_e" => some ((Real.log (128 / 6375) : ℝ) : EReal)
  | "step" => some ((1 / 12750 : ℝ) : EReal)
  | "step_e" => some ((128 / 6375 : ℝ) : EReal)
  | _ => none
-- ==== ReferenceIdeal.lean ====
abbrev S512x3x64x64 : Shape := ⟨4, ![512, 3, 64, 64]⟩
abbrev S12288 : Shape := ⟨1, ![12288]⟩
abbrev S512x12288 : Shape := ⟨2, ![512, 12288]⟩
abbrev S_ : Shape := ⟨0, ![]⟩
abbrev S100 : Shape := ⟨1, ![100]⟩
abbrev S100x1x1 : Shape := ⟨3, ![100, 1, 1]⟩
abbrev S1x512x12288 : Shape := ⟨3, ![1, 512, 12288]⟩
abbrev S100x512x12288 : Shape := ⟨3, ![100, 512, 12288]⟩
abbrev S1x1x12288 : Shape := ⟨3, ![1, 1, 12288]⟩

abbrev nBuf : Space → Nat
  | .hbm => 202
  | .vmem => 0
  | .smem => 0
  | _ => 0

abbrev hbmTy0_0 (i : Nat) : BufTy := match i % 128 with
  | 0 => ⟨S512x3x64x64, .f32⟩
  | 1 => ⟨S512x3x64x64, .f32⟩
  | 2 => ⟨S12288, .f32⟩
  | 3 => ⟨S12288, .f32⟩
  | 4 => ⟨S512x12288, .f32⟩
  | 5 => ⟨S512x12288, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S12288, .f32⟩
  | 13 => ⟨S12288, .f32⟩
  | 14 => ⟨S_, .f32⟩
  | 15 => ⟨S12288, .f32⟩
  | 16 => ⟨S12288, .f32⟩
  | 17 => ⟨S_, .f32⟩
  | 18 => ⟨S12288, .f32⟩
  | 19 => ⟨S12288, .f32⟩
  | 20 => ⟨S_, .f32⟩
  | 21 => ⟨S12288, .f32⟩
  | 22 => ⟨S12288, .f32⟩
  | 23 => ⟨S12288, .f32⟩
  | 24 => ⟨S12288, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S12288, .f32⟩
  | 38 => ⟨S12288, .f32⟩
  | 39 => ⟨S_, .f32⟩
  | 40 => ⟨S12288, .f32⟩
  | 41 => ⟨S12288, .f32⟩
  | 42 => ⟨S12288, .f32⟩
  | 43 => ⟨S12288, .f32⟩
  | 44 => ⟨S12288, .i1⟩
  | 45 => ⟨S12288, .f32⟩
  | 46 => ⟨S12288, .f32⟩
  | 47 => ⟨S12288, .f32⟩
  | 48 => ⟨S12288, .f32⟩
  | 49 => ⟨S12288, .f32⟩
  | 50 => ⟨S12288, .f32⟩
  | 51 => ⟨S12288, .f32⟩
  | 52 => ⟨S12288, .f32⟩
  | 53 => ⟨S12288, .f32⟩
  | 54 => ⟨S12288, .f32⟩
  | 55 => ⟨S12288, .f32⟩
  | 56 => ⟨S12288, .f32⟩
  | 57 => ⟨S12288, .f32⟩
  | 58 => ⟨S12288, .f32⟩
  | 59 => ⟨S512x12288, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S100, .i32⟩
  | 70 => ⟨S100, .f32⟩
  | 71 => ⟨S100x1x1, .f32⟩
  | 72 => ⟨S_, .f32⟩
  | 73 => ⟨S_, .f32⟩
  | 74 => ⟨S_, .f32⟩
  | 75 => ⟨S_, .f32⟩
  | 76 => ⟨S_, .f32⟩
  | 77 => ⟨S100x1x1, .f32⟩
  | 78 => ⟨S100x1x1, .f32⟩
  | 79 => ⟨S100x1x1, .f32⟩
  | 80 => ⟨S100x1x1, .f32⟩
  | 81 => ⟨S1x512x12288, .f32⟩
  | 82 => ⟨S100x512x12288, .f32⟩
  | 83 => ⟨S100x512x12288, .f32⟩
  | 84 => ⟨S100x512x12288, .f32⟩
  | 85 => ⟨S1x1x12288, .f32⟩
  | 86 => ⟨S100x512x12288, .f32⟩
  | 87 => ⟨S100x512x12288, .f32⟩
  | 88 => ⟨S100x512x12288, .f32⟩
  | 89 => ⟨S_, .f32⟩
  | 90 => ⟨S12288, .f32⟩
  | 91 => ⟨S12288, .f32⟩
  | 92 => ⟨S12288, .f32⟩
  | 93 => ⟨S_, .f32⟩
  | 94 => ⟨S12288, .f32⟩
  | 95 => ⟨S12288, .f32⟩
  | 96 => ⟨S_, .f32⟩
  | 97 => ⟨S12288, .f32⟩
  | 98 => ⟨S12288, .i1⟩
  | 99 => ⟨S_, .f32⟩
  | 100 => ⟨S_, .f32⟩
  | 101 => ⟨S12288, .f32⟩
  | 102 => ⟨S12288, .f32⟩
  | 103 => ⟨S12288, .f32⟩
  | 104 => ⟨S12288, .f32⟩
  | 105 => ⟨S_, .f32⟩
  | 106 => ⟨S12288, .f32⟩
  | 107 => ⟨S12288, .f32⟩
  | 108 => ⟨S12288, .f32⟩
  | 109 => ⟨S12288, .f32⟩
  | 110 => ⟨S12288, .f32⟩
  | 111 => ⟨S1x1x12288, .f32⟩
  | 112 => ⟨S100x512x12288, .f32⟩
  | 113 => ⟨S100x512x12288, .f32⟩
  | 114 => ⟨S_, .f32⟩
  | 115 => ⟨S100x512x12288, .f32⟩
  | 116 => ⟨S100x512x12288, .f32⟩
  | 117 => ⟨S_, .f32⟩
  | 118 => ⟨S12288, .f32⟩
  | 119 => ⟨S12288, .f32⟩
  | 120 => ⟨S1x1x12288, .f32⟩
  | 121 => ⟨S100x512x12288, .f32⟩
  | 122 => ⟨S100x512x12288, .f32⟩
  | 123 => ⟨S_, .f32⟩
  | 124 => ⟨S100x512x12288, .f32⟩
  | 125 => ⟨S100x512x12288, .f32⟩
  | 126 => ⟨S1x1x12288, .f32⟩
  | 127 => ⟨S100x512x12288, .f32⟩
  | _ => ⟨S512x3x64x64, .f32⟩

abbrev hbmTy0_1 (i : Nat) : BufTy := match i % 128 with
  | 0 => ⟨S100x512x12288, .f32⟩
  | 1 => ⟨S100x512x12288, .f32⟩
  | 2 => ⟨S100x512x12288, .f32⟩
  | 3 => ⟨S100x512x12288, .f32⟩
  | 4 => ⟨S100x512x12288, .f32⟩
  | 5 => ⟨S_, .f32⟩
  | 6 => ⟨S512x12288, .f32⟩
  | 7 => ⟨S_, .f32⟩
  | 8 => ⟨S_, .f32⟩
  | 9 => ⟨S_, .f32⟩
  | 10 => ⟨S_, .f32⟩
  | 11 => ⟨S100x1x1, .f32⟩
  | 12 => ⟨S100x1x1, .f32⟩
  | 13 => ⟨S100x1x1, .f32⟩
  | 14 => ⟨S100x1x1, .f32⟩
  | 15 => ⟨S1x512x12288, .f32⟩
  | 16 => ⟨S100x512x12288, .f32⟩
  | 17 => ⟨S100x512x12288, .f32⟩
  | 18 => ⟨S100x512x12288, .f32⟩
  | 19 => ⟨S1x1x12288, .f32⟩
  | 20 => ⟨S100x512x12288, .f32⟩
  | 21 => ⟨S100x512x12288, .f32⟩
  | 22 => ⟨S100x512x12288, .f32⟩
  | 23 => ⟨S_, .f32⟩
  | 24 => ⟨S12288, .f32⟩
  | 25 => ⟨S12288, .f32⟩
  | 26 => ⟨S12288, .f32⟩
  | 27 => ⟨S_, .f32⟩
  | 28 => ⟨S12288, .f32⟩
  | 29 => ⟨S12288, .f32⟩
  | 30 => ⟨S_, .f32⟩
  | 31 => ⟨S12288, .f32⟩
  | 32 => ⟨S12288, .i1⟩
  | 33 => ⟨S_, .f32⟩
  | 34 => ⟨S_, .f32⟩
  | 35 => ⟨S12288, .f32⟩
  | 36 => ⟨S12288, .f32⟩
  | 37 => ⟨S12288, .f32⟩
  | 38 => ⟨S12288, .f32⟩
  | 39 => ⟨S_, .f32⟩
  | 40 => ⟨S12288, .f32⟩
  | 41 => ⟨S12288, .f32⟩
  | 42 => ⟨S12288, .f32⟩
  | 43 => ⟨S12288, .f32⟩
  | 44 => ⟨S12288, .f32⟩
  | 45 => ⟨S1x1x12288, .f32⟩
  | 46 => ⟨S100x512x12288, .f32⟩
  | 47 => ⟨S100x512x12288, .f32⟩
  | 48 => ⟨S_, .f32⟩
  | 49 => ⟨S100x512x12288, .f32⟩
  | 50 => ⟨S100x512x12288, .f32⟩
  | 51 => ⟨S_, .f32⟩
  | 52 => ⟨S12288, .f32⟩
  | 53 => ⟨S12288, .f32⟩
  | 54 => ⟨S1x1x12288, .f32⟩
  | 55 => ⟨S100x512x12288, .f32⟩
  | 56 => ⟨S100x512x12288, .f32⟩
  | 57 => ⟨S_, .f32⟩
  | 58 => ⟨S100x512x12288, .f32⟩
  | 59 => ⟨S100x512x12288, .f32⟩
  | 60 => ⟨S1x1x12288, .f32⟩
  | 61 => ⟨S100x512x12288, .f32⟩
  | 62 => ⟨S100x512x12288, .f32⟩
  | 63 => ⟨S100x512x12288, .f32⟩
  | 64 => ⟨S100x512x12288, .f32⟩
  | 65 => ⟨S100x512x12288, .f32⟩
  | 66 => ⟨S100x512x12288, .f32⟩
  | 67 => ⟨S_, .f32⟩
  | 68 => ⟨S512x12288, .f32⟩
  | 69 => ⟨S_, .f32⟩
  | 70 => ⟨S512x12288, .f32⟩
  | 71 => ⟨S512x12288, .i1⟩
  | 72 => ⟨S512x12288, .f32⟩
  | 73 => ⟨S512x12288, .f32⟩
  | _ => ⟨S512x3x64x64, .f32⟩

abbrev hbmTy (i : Nat) : BufTy := match i / 128 with
  | 0 => hbmTy0_0 i
  | 1 => hbmTy0_1 i
  | _ => ⟨S512x3x64x64, .f32⟩

abbrev bufTy : (tb : Table) → Fin (tcTables nBuf tb) → BufTy
  | .hbm, ⟨i, _⟩ => hbmTy i
  | _, _ => ⟨S512x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_10 : Ref sig .tc := ⟨.hbm, 60, rfl⟩
abbrev main_cst_11 : Ref sig .tc := ⟨.hbm, 61, rfl⟩
abbrev main_v32 : Ref sig .tc := ⟨.hbm, 62, rfl⟩
abbrev main_cst_12 : Ref sig .tc := ⟨.hbm, 63, rfl⟩
abbrev main_v33 : Ref sig .tc := ⟨.hbm, 64, rfl⟩
abbrev main_cst_13 : Ref sig .tc := ⟨.hbm, 65, rfl⟩
abbrev main_v34 : Ref sig .tc := ⟨.hbm, 66, rfl⟩
abbrev main_cst_14 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_15 : Ref sig .tc := ⟨.hbm, 72, rfl⟩
abbrev main_v39 : Ref sig .tc := ⟨.hbm, 73, rfl⟩
abbrev main_cst_16 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_17 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_18 : Ref sig .tc := ⟨.hbm, 93, rfl⟩
abbrev main_v57 : Ref sig .tc := ⟨.hbm, 94, rfl⟩
abbrev main_v58 : Ref sig .tc := ⟨.hbm, 95, rfl⟩
abbrev main_cst_19 : Ref sig .tc := ⟨.hbm, 96, rfl⟩
abbrev main_v59 : Ref sig .tc := ⟨.hbm, 97, rfl⟩
abbrev main_v60 : Ref sig .tc := ⟨.hbm, 98, rfl⟩
abbrev main_cst_20 : Ref sig .tc := ⟨.hbm, 99, rfl⟩
abbrev main_cst_21 : Ref sig .tc := ⟨.hbm, 100, rfl⟩
abbrev main_call1_v0 : Ref sig .tc := ⟨.hbm, 101, rfl⟩
abbrev main_call1_v1 : Ref sig .tc := ⟨.hbm, 102, rfl⟩
abbrev main_v61 : Ref sig .tc := ⟨.hbm, 103, rfl⟩
abbrev main_v62 : Ref sig .tc := ⟨.hbm, 104, rfl⟩
abbrev main_cst_22 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_23 : Ref sig .tc := ⟨.hbm, 114, rfl⟩
abbrev main_v71 : Ref sig .tc := ⟨.hbm, 115, rfl⟩
abbrev main_v72 : Ref sig .tc := ⟨.hbm, 116, rfl⟩
abbrev main_cst_24 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_25 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_26 : Ref sig .tc := ⟨.hbm, 133, rfl⟩
abbrev main_v87 : Ref sig .tc := ⟨.hbm, 134, rfl⟩
abbrev main_v88 : Ref sig .tc := ⟨.hbm, 135, rfl⟩
abbrev main_cst_27 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_28 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_29 : Ref sig .tc := ⟨.hbm, 155, rfl⟩
abbrev main_v106 : Ref sig .tc := ⟨.hbm, 156, rfl⟩
abbrev main_v107 : Ref sig .tc := ⟨.hbm, 157, rfl⟩
abbrev main_cst_30 : Ref sig .tc := ⟨.hbm, 158, rfl⟩
abbrev main_v108 : Ref sig .tc := ⟨.hbm, 159, rfl⟩
abbrev main_v109 : Ref sig .tc := ⟨.hbm, 160, rfl⟩
abbrev main_cst_31 : Ref sig .tc := ⟨.hbm, 161, rfl⟩
abbrev main_cst_32 : Ref sig .tc := ⟨.hbm, 162, rfl⟩
abbrev main_call2_v0 : Ref sig .tc := ⟨.hbm, 163, rfl⟩
abbrev main_call2_v1 : Ref sig .tc := ⟨.hbm, 164, rfl⟩
abbrev main_v110 : Ref sig .tc := ⟨.hbm, 165, rfl⟩
abbrev main_v111 : Ref sig .tc := ⟨.hbm, 166, rfl⟩
abbrev main_cst_33 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_34 : Ref sig .tc := ⟨.hbm, 176, rfl⟩
abbrev main_v120 : Ref sig .tc := ⟨.hbm, 177, rfl⟩
abbrev main_v121 : Ref sig .tc := ⟨.hbm, 178, rfl⟩
abbrev main_cst_35 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_36 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_37 : Ref sig .tc := ⟨.hbm, 195, rfl⟩
abbrev main_v136 : Ref sig .tc := ⟨.hbm, 196, rfl⟩
abbrev main_cst_38 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩

abbrev nD : Nat := 1
abbrev τ : Topo := Topo.v7x

variable {F : FTy → Type} [FloatOps F]
-- ==== Proof.Chunk.lean ====
/- What one block of the kernel's result holds, before any arithmetic: the kernel cuts its (8, 12288) block into twelve
   (8, 1024) pieces along the lanes and runs the same text on each, so the block is one function, `chunk`, of the
   two input blocks cut the same way. -/
module

public import proofs.«01_k».proof.Proof.Gen.KernelIdeal.Value

@[expose] public section

set_option maxRecDepth 16384

noncomputable section

namespace Cert.KernelIdeal.Loss

open Cert.KernelIdeal Cert.KernelIdeal.Gen Idealize.ShloMosaic Idealize.ShloMosaic.TcCoe Idealize.SL.Sem

variable {F : FTy → Type} [FloatOps F] [Named F]

/-- One trip of the sampling loop over the pair (running sum, residual): the sample's term is added, the residual moves on. -/
abbrev trip (a : Vec F S8x1024 .f32) (w : FVec F S8x1024 .f32 × FVec F S8x1024 .f32) : FVec F S8x1024 .f32 × FVec F S8x1024 .f32 :=
  (k0_pay5 w.1 w.2, k0_pay6 a w.2)

/-- What the kernel stores for one (8, 1024) piece, of the piece `a` of the targets and the piece `b` of the predictions. -/
def chunk (a b : Vec F S8x1024 .f32) : FVec F S8x1024 .f32 :=
  k0_pay7 a (Scf.fold (n := k0_t1_loop.trips) (fun _ w => trip a w) (k0_pay4, k0_pay3 a b)).1

/-- Piece `k` lies inside the block. -/
theorem inb (k : Fin 12) : ∀ a : Fin 2, (![0, 1024 * k.val] : Fin 2 → Nat) a + (![8, 1024] : Fin 2 → Nat) a ≤ S8x12288.size a := by
  revert k; decide

/-- The lanes `1024 k … 1024 k + 1023` of the block. -/
abbrev lanes (k : Fin 12) : Rect S8x12288 := Rect.unit ![0, 1024 * k.val] ![8, 1024] (inb k)

section

variable (c : Dev nD) (i : grid0.Coords)
  (arg1 : Memref sig .tc .vmem S8x12288 .f32) (harg1 : arg1.IsWhole) (arg2 : Memref sig .tc .vmem S8x12288 .f32) (harg2 : arg2.IsWhole)
  (arg3 : Memref sig .tc .vmem S8x12288 .f32) (harg3 : arg3.IsWhole) (x0 x1 : Vec F S8x12288 .f32)

/-- Piece `k` of what the body stores. -/
def piece (k : Fin 12) : View.Piece (Elt F) S8x12288 .f32 :=
  ⟨lanes k, chunk (View.readAt (Elt F) arg1.view (lanes k).toLoadRect (harg1.unread x0))
    (View.readAt (Elt F) arg2.view (lanes k).toLoadRect (harg2.unread x1))⟩

/-- The body's stores are the twelve pieces, the last one first. -/
theorem pieces_eq : (kernelRun0_A c i arg1 harg1 arg2 harg2 arg3 harg3 x0 x1).1
    = [11, 10, 9, 8, 7, 6, 5, 4, 3, 2, 1, 0].map (piece arg1 harg1 arg2 harg2 x0 x1) := by
  rfl

end

end Cert.KernelIdeal.Loss
-- ==== Proof.Loss.lean ====
/- The loss as a function of two real numbers: the target and the prediction at one pixel. -/
module

public import proofs.«01_k».proof.Proof.Gen.KernelIdeal.Value

@[expose] public section

noncomputable section

namespace Cert.Loss

open Idealize.ShloMosaic

/-- The density's value at residual `r`, before its constant: `exp (1 - √(r² + 1))`. -/
def dens (r : ℝ) : ℝ := Real.exp (1 - √(r * r + 1))

/-- The first `n` samples of the bin's integral: the density at `r, r - δ, …, r - (n - 1) δ`. -/
def samples (r δ : ℝ) (n : ℕ) : ℝ := ∑ k ∈ Finset.range n, dens (r - k * δ)

/-- A pixel whose target is one takes the upper edge's bin, any other pixel the bin of its own value: the logarithm of the
    hundred samples' sum times their spacing. -/
def loss (g p : ℝ) : ℝ :=
  if g = 1 then Real.log (samples (p - g - 14 / 6375) (128 / 6375) 100 * (128 / 6375))
  else Real.log (samples (p - g - -33 / 8500) (1 / 12750) 100 * (1 / 12750))

/-- The loss of two arrays of extended reals, element by element (meant where both are real). -/
def lossOf {s : Shape} (x0 x1 : FVec Ideal s .f32) : FVec Ideal s .f32 :=
  fun y => ((loss (EReal.toReal (x0 y)) (EReal.toReal (x1 y)) : ℝ) : EReal)

/-- Every element is a real number. -/
def IsReal {s : Shape} (x : FVec Ideal s .f32) : Prop := ∀ y, ((EReal.toReal (x y) : ℝ) : EReal) = x y

/-- The density is positive. -/
theorem dens_pos (r : ℝ) : 0 < dens r := Real.exp_pos _

/-- One more sample. -/
theorem samples_succ (r δ : ℝ) (n : ℕ) : samples r δ (n + 1) = samples r δ n + dens (r - n * δ) :=
  Finset.sum_range_succ _ _

/-- A hundred samples sum to a positive number. -/
theorem samples_pos (r δ : ℝ) : 0 < samples r δ 100 :=
  Finset.sum_pos (fun _ _ => dens_pos _) ⟨0, by simp⟩

/-- The number under the density's root is positive. -/
theorem under_pos (r : ℝ) : 0 < r * r + 1 := by nlinarith [mul_self_nonneg r]

/-- A positive number times the reciprocal of its root is its root. -/
theorem mul_inv_sqrt {t : ℝ} (ht : 0 < t) : t * (√t)⁻¹ = √t := by
  rw [← div_eq_mul_inv, Real.div_sqrt]

/-- The exponential as the kernel spells it: a power of two with both terms of the exponent over `log 2`. -/
theorem two_rpow (s : ℝ) : Real.rpow 2 ((Real.log 2)⁻¹ - (Real.log 2)⁻¹ * s) = Real.exp (1 - s) := by
  have h : Real.log 2 ≠ 0 := Real.log_ne_zero_of_pos_of_ne_one (by norm_num) (by norm_num)
  rw [Real.rpow_eq_pow, Real.rpow_def_of_pos (by norm_num)]
  congr 1
  field_simp

/-- The logarithm as the kernel spells it: over `log 2`, times `log 2`, plus the spacing's own logarithm. -/
theorem log_split {S δ : ℝ} (hS : 0 < S) (hδ : 0 < δ) :
    Real.log 2 * (Real.log S * (Real.log 2)⁻¹) + Real.log δ = Real.log (S * δ) := by
  have h : Real.log 2 ≠ 0 := Real.log_ne_zero_of_pos_of_ne_one (by norm_num) (by norm_num)
  rw [Real.log_mul hS.ne' hδ.ne']
  congr 1
  field_simp

end Cert.Loss
-- ==== Proof.Trip.lean ====
/- What one piece of the kernel's block computes, element by element, on real inputs. -/
module

public import proofs.«01_k».proof.Proof.Chunk
public import proofs.«01_k».proof.Proof.Loss
public import Idealize.ShloMosaic.Lib.IdealHost
public import Idealize.ShloMosaic.Lib.Pointwise

@[expose] public section

set_option maxRecDepth 16384

noncomputable section

namespace Cert.KernelIdeal.Loss

open Cert.KernelIdeal Cert.KernelIdeal.Gen Cert.Loss Idealize.ShloMosaic Idealize.ShloMosaic.TcCoe Idealize.SL.Sem

/-- The equality test the kernel makes of a target against one, read as a choice. -/
theorem choose_eq_one {α : Type} (g : ℝ) (u v : α) : (if Ideal.cmp .oeq (g : EReal) 1 = 1 then u else v) = if g = 1 then u else v := by
  have h : ((g : EReal) = 1) ↔ g = 1 := by rw [← EReal.coe_one, EReal.coe_eq_coe_iff]
  by_cases hg : g = 1 <;> simp [Ideal.cmp, h, hg]

/-- The zero pattern is zero. -/
theorem zero_word : Ideal.ofBits .f32 0x00000000#32 = ((0 : ℝ) : EReal) := by simp [Ideal.ofBits, Ideal.ieee]

variable (a b : Vec Ideal S8x1024 .f32) (x : S8x1024.Idx) (g p : ℝ)

/-- The piece's edge flag is the comparison of the target with one. -/
theorem edge_apply (ha : a x = (g : EReal)) : k0_pay2 a x = Ideal.cmp .oeq (g : EReal) 1 := by
  unfold k0_pay2 k0_pay1
  rw [shapeCast_self]
  show Ideal.cmp .oeq (a x) (Ideal.ofBits .f32 0x3F800000#32) = _
  rw [ha, Ideal.ofBits_one_f32]

/-- One trip adds the density at the residual. -/
theorem sum_apply (u w : FVec Ideal S8x1024 .f32) (s r : ℝ) (hu : u x = (s : EReal)) (hw : w x = (r : EReal)) :
    k0_pay5 u w x = ((s + dens r : ℝ) : EReal) := by
  have ht := under_pos r
  have e : w x * w x + 1 = ((r * r + 1 : ℝ) : EReal) := by rw [hw]; norm_cast
  show u x + Ideal.exp2 (((Real.log 2)⁻¹ : ℝ) - ((Real.log 2)⁻¹ : ℝ) * ((w x * w x + Ideal.ofBits .f32 0x3F800000#32) * Ideal.rsqrt (w x * w x + Ideal.ofBits .f32 0x3F800000#32))) = _
  rw [Ideal.ofBits_one_f32, e, Ideal.rsqrt_coe, if_neg (not_lt.mpr ht.le), if_neg ht.ne', ← EReal.coe_mul, mul_inv_sqrt ht,
    ← EReal.coe_mul, ← EReal.coe_sub, Ideal.exp2_coe, two_rpow, hu, ← EReal.coe_add]
  rfl

/-- One trip moves the residual on by the spacing. -/
theorem move_apply (w : FVec Ideal S8x1024 .f32) (r : ℝ) (ha : a x = (g : EReal)) (hw : w x = (r : EReal)) :
    k0_pay6 a w x = ((r - (if g = 1 then 128 / 6375 else 1 / 12750) : ℝ) : EReal) := by
  show w x + (Ideal.ofBits .f32 0x00000000#32 - (if k0_pay2 a x = 1 then ((128 / 6375 : ℝ) : EReal) else ((1 / 12750 : ℝ) : EReal))) = _
  rw [edge_apply a x g ha, choose_eq_one, hw, zero_word]
  split <;> norm_cast <;> ring_nf

/-- The residual the loop starts from: the difference of the images less the first sample's offset. -/
theorem start_apply (ha : a x = (g : EReal)) (hb : b x = (p : EReal)) :
    k0_pay3 a b x = ((p - g - (if g = 1 then 14 / 6375 else -33 / 8500) : ℝ) : EReal) := by
  have h1 : k0_pay1 a x = (g : EReal) := by unfold k0_pay1; rw [shapeCast_self]; exact ha
  have e : shapeCast S8x1024 b shapeCasts_S8x1024_S8x1024 x = (p : EReal) := by rw [shapeCast_self]; exact hb
  show shapeCast S8x1024 b shapeCasts_S8x1024_S8x1024 x - k0_pay1 a x
    - (if k0_pay2 a x = 1 then ((14 / 6375 : ℝ) : EReal) else ((-33 / 8500 : ℝ) : EReal)) = _
  rw [e, h1, edge_apply a x g ha, choose_eq_one]
  split <;> norm_cast

/-- After `n` trips the sum is that of `n` samples and the residual has moved `n` spacings. -/
theorem trips_apply (ha : a x = (g : EReal)) (r : ℝ) (w : FVec Ideal S8x1024 .f32 × FVec Ideal S8x1024 .f32)
    (h1 : w.1 x = ((0 : ℝ) : EReal)) (h2 : w.2 x = (r : EReal)) (n : ℕ) :
    ((trip a)^[n] w).1 x = ((samples r (if g = 1 then 128 / 6375 else 1 / 12750) n : ℝ) : EReal)
      ∧ ((trip a)^[n] w).2 x = ((r - n * (if g = 1 then 128 / 6375 else 1 / 12750) : ℝ) : EReal) := by
  induction n with
  | zero => simpa [samples] using ⟨h1, h2⟩
  | succ n ih =>
    rw [Function.iterate_succ_apply']
    refine ⟨(sum_apply x _ _ _ _ ih.1 ih.2).trans ?_, (move_apply a x g _ _ ha ih.2).trans ?_⟩
    · rw [samples_succ]
    · congr 1; push_cast; ring

/-- A loop that runs the same trip `n` times iterates it. -/
theorem fold_const {σ : Type} {n : ℕ} (f : σ → σ) (w : σ) : Scf.fold (n := n) (fun _ v => f v) w = f^[n] w := by
  have h : ∀ (L : List (Fin n)) (v : σ), L.foldl (fun v _ => f v) v = f^[L.length] v := by
    intro L
    induction L with
    | nil => intro v; rfl
    | cons k L ih => intro v; exact ih (f v)
  rw [Scf.fold_eq, h, List.length_finRange]

/-- The loop runs a hundred trips. -/
theorem trips_eq : k0_t1_loop.trips = 100 := by decide

/-- On real inputs a piece holds the loss of its two inputs, element by element. -/
theorem chunk_apply (ha : a x = (g : EReal)) (hb : b x = (p : EReal)) : chunk a b x = ((loss g p : ℝ) : EReal) := by
  unfold chunk
  rw [fold_const, trips_eq]
  have h := (trips_apply a x g ha _ (k0_pay4, k0_pay3 a b) zero_word (start_apply a b x g p ha hb) 100).1
  generalize (trip a)^[100] (k0_pay4, k0_pay3 a b) = w at h
  show ((Real.log 2 : ℝ) : EReal) * (Ideal.log (w.1 x) * (((Real.log 2)⁻¹ : ℝ) : EReal))
    + (if k0_pay2 a x = 1 then ((Real.log (128 / 6375) : ℝ) : EReal) else ((Real.log (1 / 12750) : ℝ) : EReal)) = _
  rw [edge_apply a x g ha, choose_eq_one, h, Ideal.log_coe, if_neg (not_le.mpr (samples_pos _ _)), loss]
  split
  · rw [← EReal.coe_mul, ← EReal.coe_mul, ← EReal.coe_add, log_split (samples_pos _ _) (by norm_num)]
  · rw [← EReal.coe_mul, ← EReal.coe_mul, ← EReal.coe_add, log_split (samples_pos _ _) (by norm_num)]

end Cert.KernelIdeal.Loss
-- ==== Proof.Block.lean ====
/- What the kernel's result array holds on real arguments: the loss of the two images, pixel by pixel. -/
module

public import proofs.«01_k».proof.Proof.Trip
public import Idealize.ShloMosaic.Lib.WholeRead
public import Idealize.ShloMosaic.Lib.Writes
public import Idealize.ShloMosaic.Lib.Pipeline.Value

@[expose] public section

set_option maxRecDepth 16384

noncomputable section

namespace Cert.KernelIdeal.Loss

open Cert.KernelIdeal Cert.KernelIdeal.Gen Cert.Loss Idealize.ShloMosaic Idealize.ShloMosaic.TcCoe Idealize.SL.Sem
open Idealize.ShloMosaic.Pipeline (Dat)

section

variable (c : Dev nD) (i : grid0.Coords)
  (arg1 : Memref sig .tc .vmem S8x12288 .f32) (harg1 : arg1.IsWhole) (arg2 : Memref sig .tc .vmem S8x12288 .f32) (harg2 : arg2.IsWhole)
  (arg3 : Memref sig .tc .vmem S8x12288 .f32) (harg3 : arg3.IsWhole) (x0 x1 : FVec Ideal S8x12288 .f32)

/-- Each piece holds the loss of the block at the piece's own place. -/
theorem piece_apply (h0 : IsReal x0) (h1 : IsReal x1) (k : Fin 12) (x : S8x1024.Idx) :
    (piece (F := Ideal) arg1 harg1 arg2 harg2 x0 x1 k).2 x = lossOf x0 x1 ((lanes k).emb x) :=
  chunk_apply _ _ x _ _
    ((harg1.readAt_unread (Val := Elt Ideal) x0 (lanes k).toLoadRect x).trans (h0 _).symm)
    ((harg2.readAt_unread (Val := Elt Ideal) x1 (lanes k).toLoadRect x).trans (h1 _).symm)

/-- So the body leaves the loss of its two blocks in the output's buffer. -/
theorem out_eq (h0 : IsReal x0) (h1 : IsReal x1) :
    out0_A_2 (F := Ideal) c i arg1 harg1 arg2 harg2 arg3 harg3 x0 x1 = lossOf x0 x1 := by
  funext y
  unfold out0_A_2
  refine View.read_writes_apply_of_pieces (Val := Elt Ideal) VO0_2 _ (lossOf x0 x1) _ (fun q hq => ?_) y
    (cover0_A_2 (F := Ideal) c i arg1 harg1 arg2 harg2 arg3 harg3 x0 x1 y)
  rw [pieces_eq] at hq
  obtain ⟨k, -, rfl⟩ := List.mem_map.mp hq
  exact piece_apply arg1 harg1 arg2 harg2 x0 x1 h0 h1 k

end

variable (m : (ℓ : Loc nD τ sig) → Buf (Elt Ideal) ℓ) (ρ : Dev nD → PrngReg)

/-- An image argument flattened to rows, as the host hands it to the kernel. -/
abbrev flat (z : FVec Ideal S512x3x64x64 .f32) : FVec Ideal S512x12288 .f32 :=
  shapeCast S512x12288 z shapeCasts_S512x3x64x64_S512x12288

/-- Flattening keeps the elements real. -/
theorem flat_isReal {z : FVec Ideal S512x3x64x64 .f32} (h : IsReal z) : IsReal (flat z) := fun _ => h _

/-- The kernel's first operand is the flattened target image, -/
theorem entry_gt (c : Dev nD) : V m c main_v0 = flat (m ((c : Thread nD τ).loc main_arg0)) := by
  rfl

/-- and its second the flattened prediction. -/
theorem entry_pred (c : Dev nD) : V m c main_v1 = flat (m ((c : Thread nD τ).loc main_arg1)) := by
  rfl

/-- The whole result: the loss of the two flattened images. -/
def result (c : Dev nD) : Buf (Elt Ideal) ((c : Thread nD τ).loc main_v2) :=
  lossOf (flat (m ((c : Thread nD τ).loc main_arg0))) (flat (m ((c : Thread nD τ).loc main_arg1)))

/-- The result window at grid point `t`: eight rows from row `8 t`, whole lanes. -/
theorem rows : ∀ t : Fin cfg0.N, win0_2.index t 0 * win0_2.size 0 = t.val * 8 ∧ win0_2.xsize (grid0.coords t) 0 = 8
    ∧ win0_2.index t 1 * win0_2.size 1 = 0 ∧ win0_2.xsize (grid0.coords t) 1 = 12288 :=
  (by decide +kernel : ∀ t : Fin grid0.N, win0_2.index t 0 * win0_2.size 0 = t.val * 8 ∧ win0_2.xsize (grid0.coords t) 0 = 8
    ∧ win0_2.index t 1 * win0_2.size 1 = 0 ∧ win0_2.xsize (grid0.coords t) 1 = 12288)

/-- What point `t` writes back is its block of the whole result. -/
theorem flushed_eq (c : Dev nD) (h0 : IsReal (s := S512x3x64x64) (m ((c : Thread nD τ).loc main_arg0)))
    (h1 : IsReal (s := S512x3x64x64) (m ((c : Thread nD τ).loc main_arg1))) (t : Fin cfg0.N) :
    (dats m 0 c).flushed 2 t = ((cfg0.win 2).blk t).view.read (Elt Ideal) (result m c) := by
  have e0 : iblk m c 0 t = ((cfg0.win 0).blk t).view.read (Elt Ideal) (flat (m ((c : Thread nD τ).loc main_arg0))) := by
    unfold iblk; rw [← entry_gt]
  have e1 : iblk m c 1 t = ((cfg0.win 1).blk t).view.read (Elt Ideal) (flat (m ((c : Thread nD τ).loc main_arg1))) := by
    unfold iblk; rw [← entry_pred]
  rw [Value.flushed2_A, e0, e1]
  refine (congrArg ((cfg0.win 2).cut (grid0.coords t)) (out_eq c (grid0.coords t) (ms0_0 t) (hs0_0 t) (ms0_1 t) (hs0_1 t) (ms0_2 t) (hs0_2 t)
    _ _ ?_ ?_)).trans ?_
  · exact fun _ => flat_isReal h0 _
  · exact fun _ => flat_isReal h1 _
  · rfl

/-- Every place of the result array lies in the block of the point of its row. -/
theorem cover (i : S512x12288.Idx) :
    ∃ t : Fin cfg0.N, (cfg0.win 2).flush t = true ∧ i ∈ ((cfg0.win 2).blk t).view.set := by
  have hi0 : (i 0 : Nat) < 512 := (i 0).isLt
  have hi1 : (i 1 : Nat) < 12288 := (i 1).isLt
  have hN : cfg0.N = 64 := by decide
  refine ⟨⟨(i 0 : Nat) / 8, by omega⟩, flush0_2 _, ?_⟩
  generalize ht : (⟨(i 0 : Nat) / 8, by omega⟩ : Fin cfg0.N) = t
  have htv : t.val = (i 0 : Nat) / 8 := by rw [← ht]
  obtain ⟨r0, s0, r1, s1⟩ := rows t
  show i ∈ ((View.whole main_v2).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    omega
  | ⟨1, _⟩ =>
    show win0_2.index t 1 * win0_2.size 1 ≤ (i 1 : Nat) ∧ (i 1 : Nat) < win0_2.index t 1 * win0_2.size 1 + win0_2.xsize (grid0.coords t) 1
    omega

/-- The kernel's run from memories whose two images are real: the result array is the loss, the arguments are kept. -/
theorem run (h0 : ∀ c : Dev nD, IsReal (s := S512x3x64x64) (m ((c : Thread nD τ).loc main_arg0)))
    (h1 : ∀ c : Dev nD, IsReal (s := S512x3x64x64) (m ((c : Thread nD τ).loc main_arg1))) :
    θ_run (defs (F := Ideal)) (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 2 (result m c) (fun t _ => flushed_eq m c (h0 c) (h1 c) t) cover), (h c).2⟩)
    (Value.run_blocks m ρ)

end Cert.KernelIdeal.Loss
-- ==== Proof.Params.lean ====
/- The reference's two shape parameters and its constants: with both latents zero the exponent and the scale are one. -/
module

public import proofs.«01_k».proof.Proof.Loss
public import proofs.«01_k».proof.Proof.Gen.ReferenceIdeal.Run
public import Idealize.ShloMosaic.Lib.IdealHost
public import Idealize.ShloMosaic.Lib.Pointwise

@[expose] public section

set_option maxRecDepth 16384

noncomputable section

namespace Cert.ReferenceIdeal.Loss

open Cert.ReferenceIdeal Cert.ReferenceIdeal.Value Cert.Loss Idealize.ShloMosaic Idealize.ShloMosaic.TcCoe Idealize.SL.Sem

/-! ## The constants' words -/

/-- The word of zero. -/
theorem word_zero : Ideal.ofBits .f32 0x00000000#32 = ((0 : ℝ) : EReal) := by simp [Ideal.ofBits, Ideal.ieee]
/-- The word of one. -/
theorem word_one : Ideal.ofBits .f32 0x3F800000#32 = ((1 : ℝ) : EReal) := by simp [Ideal.ofBits, Ideal.ieee, -EReal.coe_mul]; norm_num
/-- The word of minus one. -/
theorem word_neg_one : Ideal.ofBits .f32 0xBF800000#32 = ((-1 : ℝ) : EReal) := by simp [Ideal.ofBits, Ideal.ieee, -EReal.coe_mul, -EReal.coe_neg]; norm_num
/-- The word of two. -/
theorem word_two : Ideal.ofBits .f32 0x40000000#32 = ((2 : ℝ) : EReal) := by simp [Ideal.ofBits, Ideal.ieee, -EReal.coe_mul]; norm_num
/-- The word of a half. -/
theorem word_half : Ideal.ofBits .f32 0x3F000000#32 = ((1 / 2 : ℝ) : EReal) := by simp [Ideal.ofBits, Ideal.ieee, -EReal.coe_mul]; norm_num
/-- The word of minus a half. -/
theorem word_neg_half : Ideal.ofBits .f32 0xBF000000#32 = ((-1 / 2 : ℝ) : EReal) := by simp [Ideal.ofBits, Ideal.ieee, -EReal.coe_mul, -EReal.coe_neg]; norm_num
/-- The word of a hundred. -/
theorem word_100 : Ideal.ofBits .f32 0x42C80000#32 = ((100 : ℝ) : EReal) := by simp [Ideal.ofBits, Ideal.ieee, -EReal.coe_mul]; norm_num
/-- The word of 127.5. -/
theorem word_bins : Ideal.ofBits .f32 0x42FF0000#32 = ((255 / 2 : ℝ) : EReal) := by simp [Ideal.ofBits, Ideal.ieee, -EReal.coe_mul]; norm_num
/-- The word of a thousand. -/
theorem word_1000 : Ideal.ofBits .f32 0x447A0000#32 = ((1000 : ℝ) : EReal) := by simp [Ideal.ofBits, Ideal.ieee, -EReal.coe_mul]; norm_num
/-- The word of 1999. -/
theorem word_1999 : Ideal.ofBits .f32 0x44F9E000#32 = ((1999 : ℝ) : EReal) := by simp [Ideal.ofBits, Ideal.ieee, -EReal.coe_mul]; norm_num
/-- The word of a hundred thousand. -/
theorem word_100000 : Ideal.ofBits .f32 0x47C35000#32 = ((100000 : ℝ) : EReal) := by simp [Ideal.ofBits, Ideal.ieee, -EReal.coe_mul]; norm_num

/-- The guard against a zero divisor is below one. -/
theorem word_guard : Ideal.ofBits .f32 0x358637BD#32 ≤ ((1 : ℝ) : EReal) := by
  simp [Ideal.ofBits, Ideal.ieee, -EReal.coe_mul, -EReal.coe_one]
  norm_num

/-- The quotient of two reals, the divisor not zero. -/
theorem div_real (x : ℝ) {y : ℝ} (hy : y ≠ 0) : Ideal.div (x : EReal) (y : EReal) = ((x / y : ℝ) : EReal) := by
  rw [Ideal.div_coe hy, ← EReal.coe_mul, mul_one_div]

/-- The larger of two reals. -/
theorem real_max (x y : ℝ) : ((max x y : ℝ) : EReal) = max (x : EReal) (y : EReal) := EReal.coe_strictMono.monotone.map_max

/-- The larger of the guard and one is one. -/
theorem guard_max : max (Ideal.ofBits .f32 0x358637BD#32) ((1 : ℝ) : EReal) = ((1 : ℝ) : EReal) := max_eq_right word_guard

/-! ## The exponent -/

variable (V0 : Valuation τ sig (Elt Ideal))

/-- The exponent of a latent: a logistic curve between 1/1000 and 1999/1000. -/
def alphaOf (a : EReal) : EReal :=
  Ideal.div (Ideal.ofBits .f32 0x3F800000#32) (Ideal.ofBits .f32 0x3F800000#32 + Ideal.exp (-a))
      * (Ideal.div (Ideal.ofBits .f32 0x44F9E000#32) (Ideal.ofBits .f32 0x447A0000#32)
        - Ideal.div (Ideal.ofBits .f32 0x3F800000#32) (Ideal.ofBits .f32 0x447A0000#32))
      + Ideal.div (Ideal.ofBits .f32 0x3F800000#32) (Ideal.ofBits .f32 0x447A0000#32)

/-- It is one at zero. -/
theorem alphaOf_zero : alphaOf ((0 : ℝ) : EReal) = ((1 : ℝ) : EReal) := by
  unfold alphaOf
  rw [word_one, word_1999, word_1000, div_real _ (by norm_num), div_real _ (by norm_num), ← EReal.coe_neg, Ideal.exp_coe, neg_zero,
    Real.exp_zero, ← EReal.coe_add, div_real _ (by norm_num), ← EReal.coe_sub, ← EReal.coe_mul, ← EReal.coe_add]
  norm_num

/-- At a zero latent the reference's exponent is one. -/
theorem alpha_apply (x : S12288.Idx) (h : V0 (Proc.devRef .tc main_arg2) x = ((0 : ℝ) : EReal)) :
    res_main_v14 V0 x = ((1 : ℝ) : EReal) := by
  show alphaOf (V0 (Proc.devRef .tc main_arg2) x) = _
  rw [h, alphaOf_zero]

/-- The distance of an exponent from two, kept from zero. -/
def betaOf (a : EReal) : EReal :=
  max (Ideal.ofBits .f32 0x358637BD#32) (max (a - Ideal.ofBits .f32 0x40000000#32) (-(a - Ideal.ofBits .f32 0x40000000#32)))

/-- It is one when the exponent is, -/
theorem betaOf_one : betaOf ((1 : ℝ) : EReal) = ((1 : ℝ) : EReal) := by
  unfold betaOf
  rw [word_two, ← EReal.coe_sub, ← EReal.coe_neg, max_eq_right (EReal.coe_le_coe_iff.mpr (by norm_num)),
    show (-(1 - 2) : ℝ) = 1 by norm_num, guard_max]

/-- and so is the reference's, -/
theorem beta_apply (x : S12288.Idx) (h : res_main_v14 V0 x = ((1 : ℝ) : EReal)) : res_main_v58 V0 x = ((1 : ℝ) : EReal) := by
  show betaOf (res_main_v14 V0 x) = _
  rw [h, betaOf_one]

/-- which the program computes once for each bin. -/
theorem beta_eq : res_main_v107 V0 = res_main_v58 V0 := rfl

/-! ## The scale -/

/-- The softplus's shift: it makes the softplus one at zero. -/
theorem shift_apply (j : S_.Idx) : res_main_v18 V0 j = ((Real.log (Real.exp 1 - 1) : ℝ) : EReal) := by
  have h1 : (0 : ℝ) < Real.exp 1 - 1 := by linarith [Real.add_one_lt_exp (one_ne_zero)]
  show Ideal.log (Ideal.exp (Ideal.ofBits .f32 0x3F800000#32) - Ideal.ofBits .f32 0x3F800000#32) = _
  rw [word_one, Ideal.exp_coe, ← EReal.coe_sub, Ideal.log_coe, if_neg (not_le.mpr h1)]

/-- The number `e` is above two. -/
theorem two_lt_exp_one : (2 : ℝ) < Real.exp 1 := by linarith [Real.add_one_lt_exp (one_ne_zero)]

/-- The softplus of the shift, as it is computed without overflow, is one; -/
theorem softplus_shift : max (Real.log (Real.exp 1 - 1)) 0 + Real.log (1 + Real.exp (-max (Real.log (Real.exp 1 - 1)) (-Real.log (Real.exp 1 - 1)))) = 1 := by
  have h1 : (1 : ℝ) < Real.exp 1 - 1 := by linarith [Real.add_one_lt_exp (one_ne_zero), two_lt_exp_one]
  have hl : 0 < Real.log (Real.exp 1 - 1) := Real.log_pos h1
  have h0 : (0 : ℝ) < Real.exp 1 - 1 := by linarith
  rw [max_eq_left hl.le, max_eq_left (by linarith), Real.exp_neg, Real.exp_log h0, ← Real.log_mul h0.ne' (by positivity),
    show (Real.exp 1 - 1) * (1 + (Real.exp 1 - 1)⁻¹) = Real.exp 1 by field_simp; ring, Real.log_exp]

/-- and so is the softplus it is divided by. -/
theorem softplus_plain : Real.log (1 + Real.exp (Real.log (Real.exp 1 - 1))) = 1 := by
  have h0 : (0 : ℝ) < Real.exp 1 - 1 := by linarith [Real.add_one_lt_exp (one_ne_zero)]
  rw [Real.exp_log h0, add_sub_cancel, Real.log_exp]

/-- `log (1 + e)` of a real `e` above minus one. -/
theorem log1p_real {e : ℝ} (he : 0 < 1 + e) : Ideal.log1p (e : EReal) = ((Real.log (1 + e) : ℝ) : EReal) := by
  unfold Ideal.log1p
  rw [← EReal.coe_one, ← EReal.coe_add, Ideal.log_coe, if_neg (not_le.mpr he)]

/-- The scale from a shifted latent `a`, the same less zero `b`, and the shift `s`. -/
def scaleOf (a b s : EReal) : EReal :=
  Ideal.div ((Ideal.ofBits .f32 0x3F800000#32 - Ideal.div (Ideal.ofBits .f32 0x3F800000#32) (Ideal.ofBits .f32 0x47C35000#32))
      * (if Ideal.cmp .une b b = 1 then a + Ideal.ofBits .f32 0x00000000#32
        else max a (Ideal.ofBits .f32 0x00000000#32) + Ideal.log1p (Ideal.exp (-(max b (-b))))))
      (Ideal.log1p (Ideal.exp s))
    + Ideal.div (Ideal.ofBits .f32 0x3F800000#32) (Ideal.ofBits .f32 0x47C35000#32)

/-- It is one when all three are the shift. -/
theorem scaleOf_shift : scaleOf ((Real.log (Real.exp 1 - 1) : ℝ) : EReal) ((Real.log (Real.exp 1 - 1) : ℝ) : EReal)
    ((Real.log (Real.exp 1 - 1) : ℝ) : EReal) = ((1 : ℝ) : EReal) := by
  unfold scaleOf
  rw [if_neg (by simp [Ideal.cmp]), word_zero, word_one, word_100000, div_real _ (by norm_num), ← EReal.coe_neg, ← real_max,
    ← real_max, ← EReal.coe_neg, Ideal.exp_coe, Ideal.exp_coe, log1p_real (by positivity), log1p_real (by positivity), ← EReal.coe_add,
    softplus_shift, softplus_plain, ← EReal.coe_sub, ← EReal.coe_mul, div_real _ (by norm_num), ← EReal.coe_add]
  norm_num

/-- A number plus the shift, from zero. -/
def plus (a b : EReal) : EReal := a + b

/-- A number less the word of zero. -/
def lessZero (a : EReal) : EReal := a - Ideal.ofBits .f32 0x00000000#32

/-- At a zero latent the reference's scale is one. -/
theorem scale_apply (x : S12288.Idx) (h : V0 (Proc.devRef .tc main_arg3) x = ((0 : ℝ) : EReal)) :
    res_main_v30 V0 x = ((1 : ℝ) : EReal) := by
  have e23 : res_main_v23 V0 x = ((Real.log (Real.exp 1 - 1) : ℝ) : EReal) := by
    show plus (V0 (Proc.devRef .tc main_arg3) x) (res_main_v18 V0 _) = _
    rw [h, shift_apply, plus, ← EReal.coe_add, zero_add]
  have e3 : res_main_call0_v3 V0 x = ((Real.log (Real.exp 1 - 1) : ℝ) : EReal) := by
    show lessZero (res_main_v23 V0 x) = _
    rw [e23, lessZero, word_zero, ← EReal.coe_sub, sub_zero]
  show scaleOf (res_main_v23 V0 x) (res_main_call0_v3 V0 x) (res_main_v18 V0 _) = _
  rw [e3, e23, shift_apply, scaleOf_shift]

end Cert.ReferenceIdeal.Loss
-- ==== Proof.Bins.lean ====
/- The reference's two bins: a hundred residuals each, and the sum of the density over them. -/
module

public import proofs.«01_k».proof.Proof.Params

@[expose] public section

set_option maxRecDepth 16384

noncomputable section

namespace Cert.ReferenceIdeal.Loss

open Cert.ReferenceIdeal Cert.ReferenceIdeal.Gen Cert.ReferenceIdeal.Value Cert.Loss Idealize.ShloMosaic Idealize.ShloMosaic.TcCoe Idealize.SL.Sem

variable (V0 : Valuation τ sig (Elt Ideal))

/-- The place of sample `k` at pixel `j`. -/
abbrev at3 (k : Fin 100) (j : S512x12288.Idx) : S100x512x12288.Idx :=
  ix3 k ⟨(j (0 : Fin 2)).val, (j (0 : Fin 2)).isLt⟩ ⟨(j (1 : Fin 2)).val, (j (1 : Fin 2)).isLt⟩

/-! ## The residuals -/

/-- One residual: the difference `d` less the sample's offset, over the scale. -/
def residAt (d o k δ s : EReal) : EReal := Ideal.div (d - (o + k * δ)) s

/-- A bin's residuals, from the differences, the first sample's offset and the spacing. -/
def resid (d : FVec Ideal S512x12288 .f32) (o δ : FVec Ideal S_ .f32) : FVec Ideal S100x512x12288 .f32 :=
  Host.divf
    (subf (broadcastInDim S100x512x12288 ![0, 1, 2] bcast_S1x512x12288_S100x512x12288_0_1_2
        (broadcastInDim S1x512x12288 ![1, 2] bcast_S512x12288_S1x512x12288_1_2 d))
      (broadcastInDim S100x512x12288 ![0, 1, 2] bcast_S100x1x1_S100x512x12288_0_1_2
        (addf (broadcastInDim S100x1x1 ![] bcast_S_S100x1x1 o)
          (mulf (res_main_v38 V0) (broadcastInDim S100x1x1 ![] bcast_S_S100x1x1 δ)))))
    (broadcastInDim S100x512x12288 ![0, 1, 2] bcast_S1x1x12288_S100x512x12288_0_1_2
      (broadcastInDim S1x1x12288 ![2] bcast_S12288_S1x1x12288_2 (res_main_v30 V0)))

/-- Sample number `k`, as the program counts it. -/
theorem count_toInt : ∀ k : Fin 100, (BitVec.ofNat 32 k.val).toInt = (k.val : ℤ) := by decide

/-- Spreading the differences over the samples keeps each at its pixel. -/
theorem spread_apply (d : FVec Ideal S512x12288 .f32) (k : Fin 100) (j : S512x12288.Idx) :
    broadcastInDim S100x512x12288 ![0, 1, 2] bcast_S1x512x12288_S100x512x12288_0_1_2
      (broadcastInDim S1x512x12288 ![1, 2] bcast_S512x12288_S1x512x12288_1_2 d) (at3 k j) = d j :=
  congrArg d (funext fun a => match a with
    | ⟨0, _⟩ => rfl
    | ⟨1, _⟩ => rfl)

/-- The residual of sample `k` is the difference less the offset and `k` spacings, the scale being one. -/
theorem resid_apply (hs : ∀ x : S12288.Idx, res_main_v30 V0 x = ((1 : ℝ) : EReal)) (d : FVec Ideal S512x12288 .f32) (o δ : FVec Ideal S_ .f32)
    (a b e : ℝ) (j : S512x12288.Idx) (hd : d j = (a : EReal)) (ho : ∀ i, o i = (b : EReal)) (hδ : ∀ i, δ i = (e : EReal)) (k : Fin 100) :
    resid V0 d o δ (at3 k j) = ((a - b - k.val * e : ℝ) : EReal) := by
  show residAt (broadcastInDim S100x512x12288 ![0, 1, 2] bcast_S1x512x12288_S100x512x12288_0_1_2
      (broadcastInDim S1x512x12288 ![1, 2] bcast_S512x12288_S1x512x12288_1_2 d) (at3 k j)) (o _)
    ((((BitVec.ofNat 32 k.val).toInt : ℝ) : EReal)) (δ _) (res_main_v30 V0 _) = _
  rw [spread_apply, hd, ho, hδ, hs, count_toInt, residAt, ← EReal.coe_mul, ← EReal.coe_add, ← EReal.coe_sub, div_real _ one_ne_zero]
  congr 1
  push_cast
  ring

/-! ## The bins -/

/-- One sample's share of the integral, from its residual, the spacing, and the exponent with its distance from two. -/
def shareAt (r β α δ : EReal) : EReal :=
  Ideal.exp (-(Ideal.div β ((if Ideal.cmp .oge α (Ideal.ofBits .f32 0x00000000#32) = 1 then Ideal.ofBits .f32 0x3F800000#32
        else Ideal.ofBits .f32 0xBF800000#32) * max (Ideal.ofBits .f32 0x358637BD#32) (max α (-α)))
      * (Ideal.pow (Ideal.div (r * r) β + Ideal.ofBits .f32 0x3F800000#32) (Ideal.ofBits .f32 0x3F000000#32 * α)
        - Ideal.ofBits .f32 0x3F800000#32))) * δ

/-- At exponent one the share is the density times the spacing. -/
theorem shareAt_one (r e : ℝ) : shareAt (r : EReal) ((1 : ℝ) : EReal) ((1 : ℝ) : EReal) (e : EReal) = ((dens r * e : ℝ) : EReal) := by
  unfold shareAt
  have hc : Ideal.cmp .oge ((1 : ℝ) : EReal) ((0 : ℝ) : EReal) = 1 := by simp [Ideal.cmp]
  rw [word_zero, if_pos hc, word_one, word_half, ← EReal.coe_neg, ← real_max, show max (1 : ℝ) (-1) = 1 by norm_num, guard_max, ← EReal.coe_mul,
    div_real _ (by norm_num), ← EReal.coe_mul, div_real _ one_ne_zero, ← EReal.coe_add, ← EReal.coe_mul, Ideal.pow_coe_coe, ← EReal.coe_sub,
    ← EReal.coe_mul, ← EReal.coe_neg, Ideal.exp_coe, ← EReal.coe_mul, dens, Real.rpow_eq_pow, mul_one (1 / 2 : ℝ), ← Real.sqrt_eq_rpow, div_one]
  congr 3
  ring

/-- A bin: every sample's share, summed over the samples. -/
def bin (r : FVec Ideal S100x512x12288 .f32) (β : FVec Ideal S12288 .f32) (δ : FVec Ideal S_ .f32) : FVec Ideal S512x12288 .f32 :=
  Host.reduceAdd (mulf (Host.exp (Host.negf (mulf
    (broadcastInDim S100x512x12288 ![0, 1, 2] bcast_S1x1x12288_S100x512x12288_0_1_2 (broadcastInDim S1x1x12288 ![2] bcast_S12288_S1x1x12288_2
      (Host.divf β (mulf (id (select (cmpf .oge (res_main_v14 V0) (broadcastInDim S12288 ![] bcast_S_S12288 (constant S_ .f32 0x00000000#32)))
          (broadcastInDim S12288 ![] bcast_S_S12288 (constant S_ .f32 0x3F800000#32))
          (broadcastInDim S12288 ![] bcast_S_S12288 (constant S_ .f32 0xBF800000#32))))
        (maximumf (broadcastInDim S12288 ![] bcast_S_S12288 (constant S_ .f32 0x358637BD#32)) (Host.absf (res_main_v14 V0)))))))
    (subf (Host.powf
        (addf (Host.divf (mulf r r) (broadcastInDim S100x512x12288 ![0, 1, 2] bcast_S1x1x12288_S100x512x12288_0_1_2
            (broadcastInDim S1x1x12288 ![2] bcast_S12288_S1x1x12288_2 β)))
          (broadcastInDim S100x512x12288 ![] bcast_S_S100x512x12288 (constant S_ .f32 0x3F800000#32)))
        (broadcastInDim S100x512x12288 ![0, 1, 2] bcast_S1x1x12288_S100x512x12288_0_1_2 (broadcastInDim S1x1x12288 ![2] bcast_S12288_S1x1x12288_2
          (mulf (broadcastInDim S12288 ![] bcast_S_S12288 (constant S_ .f32 0x3F000000#32)) (res_main_v14 V0)))))
      (broadcastInDim S100x512x12288 ![] bcast_S_S100x512x12288 (constant S_ .f32 0x3F800000#32))))))
    (broadcastInDim S100x512x12288 ![] bcast_S_S100x512x12288 δ)) (constant S_ .f32 0x00000000#32) reducesTo_S100x512x12288_S512x12288_d0 h_S_

/-- A sum of reals, taken in the extended reals. -/
theorem real_sum {n : ℕ} (f : Fin n → ℝ) : ∑ k : Fin n, ((f k : ℝ) : EReal) = ((∑ k : Fin n, f k : ℝ) : EReal) := by
  induction n with
  | zero => simp
  | succ n ih => rw [Fin.sum_univ_castSucc, Fin.sum_univ_castSucc, EReal.coe_add, ih]

/-- A bin whose residuals step down by the spacing is the hundred samples' sum times the spacing. -/
theorem bin_apply (ha : ∀ x : S12288.Idx, res_main_v14 V0 x = ((1 : ℝ) : EReal)) (r : FVec Ideal S100x512x12288 .f32)
    (β : FVec Ideal S12288 .f32) (δ : FVec Ideal S_ .f32) (hβ : ∀ x, β x = ((1 : ℝ) : EReal)) (a e : ℝ) (hδ : ∀ i, δ i = (e : EReal))
    (j : S512x12288.Idx) (hr : ∀ k : Fin 100, r (at3 k j) = ((a - k.val * e : ℝ) : EReal)) :
    bin V0 r β δ j = ((samples a e 100 * e : ℝ) : EReal) := by
  unfold bin
  refine (Ideal.hostReduceAdd_r3_a0 reducesTo_S100x512x12288_S512x12288_d0 _ _ j).trans ?_
  have step : ∀ k : Fin 100, shareAt (r (at3 k j)) ((1 : ℝ) : EReal) ((1 : ℝ) : EReal) (e : EReal) = ((dens (a - k.val * e) * e : ℝ) : EReal) :=
    fun k => by rw [hr, shareAt_one]
  refine (congrArg₂ (· + ·) word_zero (Finset.sum_congr rfl fun k _ => ?_)).trans
    (show ((0 : ℝ) : EReal) + ∑ k : Fin 100, ((dens (a - k.val * e) * e : ℝ) : EReal) = _ from ?_)
  · rw [← step k]
    show shareAt (r (at3 k j)) (β _) (res_main_v14 V0 _) (δ _) = _
    rw [hβ, ha, hδ]
  · rw [real_sum, ← EReal.coe_add, zero_add, ← Finset.sum_mul, samples, Fin.sum_univ_eq_sum_range (fun k : ℕ => dens (a - k * e))]

end Cert.ReferenceIdeal.Loss
-- ==== Proof.Ref.lean ====
/- What the reference's result array holds, both latents zero and both images real: the loss, pixel by pixel. -/
module

public import proofs.«01_k».proof.Proof.Bins

@[expose] public section

set_option maxRecDepth 16384

noncomputable section

namespace Cert.ReferenceIdeal.Loss

open Cert.ReferenceIdeal Cert.ReferenceIdeal.Gen Cert.ReferenceIdeal.Value Cert.Loss Idealize.ShloMosaic Idealize.ShloMosaic.TcCoe Idealize.SL.Sem

variable (V0 : Valuation τ sig (Elt Ideal))

/-! ## The spacings and the first samples' offsets -/

/-- The width of a colour level, -/
theorem level_apply (i : S_.Idx) : res_main_v32 V0 i = ((2 / 255 : ℝ) : EReal) := by
  show Ideal.div (Ideal.ofBits .f32 0x3F800000#32) (Ideal.ofBits .f32 0x42FF0000#32) = _
  rw [word_one, word_bins, div_real _ (by norm_num)]
  norm_num

/-- the value's own bin's spacing, a hundredth of it, -/
theorem step_apply (i : S_.Idx) : res_main_v33 V0 i = ((1 / 12750 : ℝ) : EReal) := by
  show Ideal.div (res_main_v32 V0 i) (Ideal.ofBits .f32 0x42C80000#32) = _
  rw [level_apply, word_100, div_real _ (by norm_num)]
  norm_num

/-- A hundredth of two more than `a`. -/
def wide (a : EReal) : EReal := Ideal.div (Ideal.ofBits .f32 0x40000000#32 + a) (Ideal.ofBits .f32 0x42C80000#32)

/-- and the edge's bin's. -/
theorem step_edge_apply (i : S_.Idx) : res_main_v35 V0 i = ((128 / 6375 : ℝ) : EReal) := by
  show wide (res_main_v32 V0 i) = _
  rw [level_apply, wide, word_two, word_100, ← EReal.coe_add, div_real _ (by norm_num)]
  norm_num

/-- The offset of the first sample in a value's own bin, -/
def first : FVec Ideal S_ .f32 :=
  addf (mulf (constant S_ .f32 0xBF000000#32) (res_main_v32 V0)) (mulf (constant S_ .f32 0x3F000000#32) (res_main_v33 V0))

/-- and in the edge's. -/
def firstEdge : FVec Ideal S_ .f32 :=
  addf (Host.negf (res_main_v32 V0)) (mulf (constant S_ .f32 0x3F000000#32) (res_main_v35 V0))

/-- Half a level below, half a spacing above. -/
def offset (w δ : EReal) : EReal := Ideal.ofBits .f32 0xBF000000#32 * w + Ideal.ofBits .f32 0x3F000000#32 * δ

/-- The first sample of a value's own bin is 33/8500 below it. -/
theorem first_apply (i : S_.Idx) : first V0 i = ((-33 / 8500 : ℝ) : EReal) := by
  show offset (res_main_v32 V0 i) (res_main_v33 V0 i) = _
  rw [level_apply, step_apply, offset, word_neg_half, word_half, ← EReal.coe_mul, ← EReal.coe_mul, ← EReal.coe_add]
  norm_num

/-- One level below, half a spacing above. -/
def offsetEdge (w δ : EReal) : EReal := -w + Ideal.ofBits .f32 0x3F000000#32 * δ

/-- The first sample of the edge's bin is 14/6375 above it. -/
theorem firstEdge_apply (i : S_.Idx) : firstEdge V0 i = ((14 / 6375 : ℝ) : EReal) := by
  show offsetEdge (res_main_v32 V0 i) (res_main_v35 V0 i) = _
  rw [level_apply, step_edge_apply, offsetEdge, word_half, ← EReal.coe_neg, ← EReal.coe_mul, ← EReal.coe_add]
  norm_num

/-! ## The result -/

/-- The logarithm of the bin a pixel's target selects. -/
def out : FVec Ideal S512x12288 .f32 :=
  Host.log (select (cmpf .oeq (res_main_v0 V0) (broadcastInDim S512x12288 ![] bcast_S_S512x12288 (constant S_ .f32 0x3F800000#32)))
    (bin V0 (resid V0 (res_main_v31 V0) (firstEdge V0) (res_main_v35 V0)) (res_main_v107 V0) (res_main_v35 V0))
    (bin V0 (resid V0 (res_main_v31 V0) (first V0) (res_main_v33 V0)) (res_main_v58 V0) (res_main_v33 V0)))

/-- The target image, flattened to rows, -/
abbrev target : FVec Ideal S512x12288 .f32 := shapeCast S512x12288 (V0 (Proc.devRef .tc main_arg0)) shapeCasts_S512x3x64x64_S512x12288
/-- and the prediction. -/
abbrev guess : FVec Ideal S512x12288 .f32 := shapeCast S512x12288 (V0 (Proc.devRef .tc main_arg1)) shapeCasts_S512x3x64x64_S512x12288

/-- The difference of two numbers, -/
def diff (a b : EReal) : EReal := a - b

/-- and one step of the result: the logarithm of the selected sum. -/
def pick (g u v : EReal) : EReal := Ideal.log (if Ideal.cmp .oeq g (Ideal.ofBits .f32 0x3F800000#32) = 1 then u else v)

/-- The selected sum's logarithm is the loss. -/
theorem pick_eq (g p : ℝ) : pick (g : EReal)
    ((samples (p - g - 14 / 6375) (128 / 6375) 100 * (128 / 6375) : ℝ) : EReal)
    ((samples (p - g - -33 / 8500) (1 / 12750) 100 * (1 / 12750) : ℝ) : EReal) = ((loss g p : ℝ) : EReal) := by
  have pos : ∀ (a δ : ℝ), 0 < δ → Ideal.log ((samples a δ 100 * δ : ℝ) : EReal) = ((Real.log (samples a δ 100 * δ) : ℝ) : EReal) :=
    fun a δ h => by rw [Ideal.log_coe, if_neg (not_le.mpr (mul_pos (samples_pos a δ) h))]
  unfold pick loss
  rw [word_one]
  by_cases h : g = 1
  · rw [if_pos ((Ideal.cmp_oeq_eq_one _ _).mpr (by rw [h])), if_pos h, pos _ _ (by norm_num)]
  · rw [if_neg (fun e => h (EReal.coe_eq_coe_iff.mp ((Ideal.cmp_oeq_eq_one _ _).mp e))), if_neg h, pos _ _ (by norm_num)]

/-- Both latents zero and both images real, the reference's result is the loss of the two flattened images. -/
theorem out_eq (h0 : IsReal (target V0)) (h1 : IsReal (guess V0))
    (h2 : ∀ x : S12288.Idx, V0 (Proc.devRef .tc main_arg2) x = ((0 : ℝ) : EReal))
    (h3 : ∀ x : S12288.Idx, V0 (Proc.devRef .tc main_arg3) x = ((0 : ℝ) : EReal)) :
    out V0 = lossOf (target V0) (guess V0) := by
  funext j
  have ha : ∀ x : S12288.Idx, res_main_v14 V0 x = ((1 : ℝ) : EReal) := fun x => alpha_apply V0 x (h2 x)
  have hs : ∀ x : S12288.Idx, res_main_v30 V0 x = ((1 : ℝ) : EReal) := fun x => scale_apply V0 x (h3 x)
  have hβ : ∀ x : S12288.Idx, res_main_v58 V0 x = ((1 : ℝ) : EReal) := fun x => beta_apply V0 x (ha x)
  obtain ⟨g, hg⟩ : ∃ g : ℝ, target V0 j = (g : EReal) := ⟨_, (h0 j).symm⟩
  obtain ⟨p, hp⟩ : ∃ p : ℝ, guess V0 j = (p : EReal) := ⟨_, (h1 j).symm⟩
  have hd : res_main_v31 V0 j = ((p - g : ℝ) : EReal) := by
    show diff (guess V0 j) (target V0 j) = _
    rw [hg, hp, diff, ← EReal.coe_sub]
  have edge := bin_apply V0 ha _ (res_main_v107 V0) (res_main_v35 V0) hβ _ _ (step_edge_apply V0) j
    (resid_apply V0 hs (res_main_v31 V0) (firstEdge V0) (res_main_v35 V0) _ _ _ j hd (firstEdge_apply V0) (step_edge_apply V0))
  have own := bin_apply V0 ha _ (res_main_v58 V0) (res_main_v33 V0) hβ _ _ (step_apply V0) j
    (resid_apply V0 hs (res_main_v31 V0) (first V0) (res_main_v33 V0) _ _ _ j hd (first_apply V0) (step_apply V0))
  show pick (target V0 j) (bin V0 (resid V0 (res_main_v31 V0) (firstEdge V0) (res_main_v35 V0)) (res_main_v107 V0) (res_main_v35 V0) j)
    (bin V0 (resid V0 (res_main_v31 V0) (first V0) (res_main_v33 V0)) (res_main_v58 V0) (res_main_v33 V0) j) = _
  rw [edge, own, hg, pick_eq, lossOf, hg, hp, EReal.toReal_coe, EReal.toReal_coe]

end Cert.ReferenceIdeal.Loss
-- ==== Proof.Given.lean ====
/- What the precondition says of the arguments: both images are real everywhere, both latents are zero everywhere. -/
module

public import proofs.«01_k».proof.Proof.Params
public import proofs.«01_k».proof.Proof.Gen.Pre_initial
public import Idealize.ShloMosaic.Lib.ReduceAll

@[expose] public section

set_option maxRecDepth 16384

noncomputable section

namespace Cert.Pre_initial.Loss

open Cert.Pre_initial Cert.Pre_initial.Gen Cert.Loss Idealize.ShloMosaic

/-- The word of infinity. -/
theorem word_inf : Ideal.ofBits .f32 0x7F800000#32 = ⊤ := by simp [Ideal.ofBits, Ideal.ieee]

/-- A number whose magnitude is below infinity is real. -/
theorem real_of_abs_lt {x : EReal} (h : max x (-x) < ⊤) : ((EReal.toReal x : ℝ) : EReal) = x := by
  refine EReal.coe_toReal (fun e => ?_) (fun e => ?_)
  · rw [e, max_eq_left le_top] at h
    exact lt_irrefl _ h
  · rw [e, EReal.neg_bot, max_eq_right le_top] at h
    exact lt_irrefl _ h

/-- A result with no axis has one index. -/
instance : Subsingleton S_.Idx := ⟨fun _ _ => funext fun a => a.elim0⟩

variable {a0 a1 : FVec Ideal S512x3x64x64 .f32} {a2 a3 : FVec Ideal S12288 .f32}

/-- The precondition read element by element. -/
theorem given (h : fn (F := Ideal) a0 a1 a2 a3 = fun _ => 1#1) :
    IsReal a0 ∧ IsReal a1 ∧ (∀ x, a2 x = ((0 : ℝ) : EReal)) ∧ ∀ x, a3 x = ((0 : ℝ) : EReal) := by
  have h' := congrFun h (Shape.Idx.first h_S_)
  obtain ⟨h012, h1⟩ := IntOp.andi_eq_one.mp h'
  obtain ⟨h23, h0⟩ := IntOp.andi_eq_one.mp h012
  obtain ⟨h2, h3⟩ := IntOp.andi_eq_one.mp h23
  refine ⟨fun y => ?_, fun y => ?_, fun x => ?_, fun x => ?_⟩
  · have e := (Ideal.cmp_olt_eq_one _ _).mp (Host.reduce_andi_all _ _ _ _ _ h0 y)
    exact real_of_abs_lt (e.trans_eq word_inf)
  · have e := (Ideal.cmp_olt_eq_one _ _).mp (Host.reduce_andi_all _ _ _ _ _ h1 y)
    exact real_of_abs_lt (e.trans_eq word_inf)
  · exact ((Ideal.cmp_oeq_eq_one _ _).mp (Host.reduce_andi_all _ _ _ _ _ h2 x)).trans Cert.ReferenceIdeal.Loss.word_zero
  · exact ((Ideal.cmp_oeq_eq_one _ _).mp (Host.reduce_andi_all _ _ _ _ _ h3 x)).trans Cert.ReferenceIdeal.Loss.word_zero

end Cert.Pre_initial.Loss
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_initial
public import proofs.«01_k».proof.Proof.Block
public import proofs.«01_k».proof.Proof.Ref
public import proofs.«01_k».proof.Proof.Given
public import Idealize.ShloMosaic.Lib.Quiescent
public import Idealize.ShloMosaic.Adequacy
public import Idealize.ShloMosaic.Init

@[expose] public section

noncomputable section

namespace Cert.Proof

open Idealize.ShloMosaic Idealize.SL.Sem Cert.Loss

/-- The reference runs, keeps its arguments, and has no semaphore to leave set. -/
theorem reference_frame : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- Each named constant's word is the word its name's value is printed as. -/
theorem names : Cert.preserves_Kernel_KernelIdeal :=
  ⟨IdealRules.named_const.statement Cert.KernelIdeal.κ "base_h" .f32 0x3B0FEC15#32 _ rfl,
    IdealRules.named_const.statement Cert.KernelIdeal.κ "base_n" .f32 0xBB7E6F13#32 _ rfl,
    IdealRules.named_const.statement Cert.KernelIdeal.κ "step_e" .f32 0x3CA47B86#32 _ rfl,
    IdealRules.named_const.statement Cert.KernelIdeal.κ "step" .f32 0x38A47B86#32 _ rfl,
    IdealRules.named_const.statement Cert.KernelIdeal.κ "log2e" .f32 0x3FB8AA3B#32 _ rfl,
    IdealRules.named_const.statement Cert.KernelIdeal.κ "log_step_e" .f32 0xC07A1E76#32 _ rfl,
    IdealRules.named_const.statement Cert.KernelIdeal.κ "log_step" .f32 0xC11740A9#32 _ rfl,
    IdealRules.named_const.statement Cert.KernelIdeal.κ "ln2" .f32 0x3F317218#32 _ rfl⟩

/-- From equal arguments that meet the precondition, the kernel and the reference both end with the loss of the two images. -/
theorem same_result : Cert.algebraic_KernelIdeal_ReferenceIdeal_pre_initial
    (hKernelIdeal := Cert.KernelIdeal.Gen.facts) (hReferenceIdeal := Cert.ReferenceIdeal.Gen.facts) (hPre_initial := Cert.Pre_initial.Gen.facts) := by
  intro m g m' g' hpre hargs
  have real := fun c => Cert.Pre_initial.Loss.given (hpre c)
  refine ⟨fun c => Cert.KernelIdeal.Loss.result m c, Cert.KernelIdeal.Loss.run m g (fun c => (real c).1) (fun c => (real c).2.1),
    (θ_run (Cert.ReferenceIdeal.defs (F := Ideal)) _ _).mono (fun r h c => ⟨(h c).1.trans ?_, (h c).2⟩)
      (Cert.ReferenceIdeal.Value.run (F := Ideal) m' g')⟩
  obtain ⟨e0, e1, e2, e3⟩ := hargs c
  obtain ⟨r0, r1, z2, z3⟩ := real c
  refine (Cert.ReferenceIdeal.Loss.out_eq (StableHlo.launchContents m' c) (fun y => ?_) (fun y => ?_) (fun x => ?_) (fun x => ?_)).trans ?_
  · exact (congrArg IsReal e0).mpr r0 _
  · exact (congrArg IsReal e1).mpr r1 _
  · exact (congrFun e2 x).trans (z2 x)
  · exact (congrFun e3 x).trans (z3 x)
  · exact congrArg₂ (fun a b => lossOf (Cert.KernelIdeal.Loss.flat a) (Cert.KernelIdeal.Loss.flat b)) e0 e1

/-- Everything the certificate claims. -/
theorem claim : Cert.Claim :=
  ⟨Cert.Kernel.Gen.facts, Cert.KernelIdeal.Gen.facts, Cert.ReferenceIdeal.Gen.facts, Cert.Pre_initial.Gen.facts,
    fun m g _ => Cert.Kernel.Gen.frame m g, fun m g _ => Cert.KernelIdeal.Gen.frame m g, fun m g _ => Cert.KernelIdeal.Gen.frame m g,
    reference_frame, fun m g _ => reference_frame m g trivial, names, same_result⟩

end Cert.Proof

end
